-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64 : Shape := ⟨2, ![8, 64]⟩
abbrev S1000000x64 : Shape := ⟨2, ![1000000, 64]⟩
abbrev S1000000 : Shape := ⟨1, ![1000000]⟩
abbrev S64x1000000 : Shape := ⟨2, ![64, 1000000]⟩
abbrev S8x1000000 : Shape := ⟨2, ![8, 1000000]⟩
abbrev S64x32768 : Shape := ⟨2, ![64, 32768]⟩
abbrev S32768 : Shape := ⟨1, ![32768]⟩
abbrev S8x32768 : Shape := ⟨2, ![8, 32768]⟩
abbrev S1x32768 : Shape := ⟨2, ![1, 32768]⟩

abbrev nBuf : Space → Nat
  | .hbm => 5
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S1000000x64, .f32⟩
  | .hbm, ⟨2, _⟩ => ⟨S1000000, .f32⟩
  | .hbm, ⟨3, _⟩ => ⟨S64x1000000, .f32⟩
  | .hbm, ⟨4, _⟩ => ⟨S8x1000000, .f32⟩
  | .local _ .vmem, ⟨0, _⟩ => ⟨S8x64, .f32⟩
  | .local _ .vmem, ⟨1, _⟩ => ⟨S64x32768, .f32⟩
  | .local _ .vmem, ⟨2, _⟩ => ⟨S64x32768, .f32⟩
  | .local _ .vmem, ⟨3, _⟩ => ⟨S32768, .f32⟩
  | .local _ .vmem, ⟨4, _⟩ => ⟨S32768, .f32⟩
  | .local _ .vmem, ⟨5, _⟩ => ⟨S8x32768, .f32⟩
  | .local _ .vmem, ⟨6, _⟩ => ⟨S8x32768, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x64 : Shape := ⟨2, ![8, 64]⟩
abbrev S1000000x64 : Shape := ⟨2, ![1000000, 64]⟩
abbrev S1000000 : Shape := ⟨1, ![1000000]⟩
abbrev S64x1000000 : Shape := ⟨2, ![64, 1000000]⟩
abbrev S8x1000000 : Shape := ⟨2, ![8, 1000000]⟩
abbrev S1x1000000 : Shape := ⟨2, ![1, 1000000]⟩

abbrev nBuf : Space → Nat
  | .hbm => 8
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S1000000x64, .f32⟩
  | .hbm, ⟨2, _⟩ => ⟨S1000000, .f32⟩
  | .hbm, ⟨3, _⟩ => ⟨S64x1000000, .f32⟩
  | .hbm, ⟨4, _⟩ => ⟨S8x1000000, .f32⟩
  | .hbm, ⟨5, _⟩ => ⟨S1x1000000, .f32⟩
  | .hbm, ⟨6, _⟩ => ⟨S8x1000000, .f32⟩
  | .hbm, ⟨7, _⟩ => ⟨S8x1000000, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Body.lean ====
/-
  The body of the pipelined kernel and the proof data of its one region, for any float values.

  The kernel computes `inp · Wᵀ + b` in blocks of 32768 columns; 31 blocks reach past the end of the 1000000 columns,
  so the last block's transfers are cut and the staging buffers' tails hold words nothing names. The three moving
  windows are therefore described on the columns inside the arrays only.

  * `body_triple`: the body leaves its three inputs as they are and its output buffer at the payload of the three.
  * `dats G`: the proof data at a whole result array `G` — after each point the output buffer holds `G`'s block.
  * `obligation`: the body meets `dats G` wherever `G`'s blocks are what the payload leaves (`Fits`).
  * `obligation_forget`: the body meets `dats G` with the output window forgotten, whatever `G` is.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.Logits

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body -/

/-- The offsets of the body's accesses are zero: each is of its whole buffer. -/
theorem zero2 : (![0, 0] : Fin 2 → ℕ) = fun _ => 0 := by decide
/-- The same on one axis. -/
theorem zero1 : (![0] : Fin 1 → ℕ) = fun _ => 0 := by decide

set_option maxHeartbeats 1000000 in
/-- The body on any four whole buffers: the inputs stay as they are, and the output buffer, whatever it held, ends at
    the payload of the three inputs. -/
theorem body_triple (c : Dev nD) (E : Set ℕ) (i : grid0.Coords)
    (a0 : Memref sig .tc .vmem S8x64 .f32) (h0 : a0.IsWhole) (a1 : Memref sig .tc .vmem S64x32768 .f32) (h1 : a1.IsWhole)
    (a2 : Memref sig .tc .vmem S32768 .f32) (h2 : a2.IsWhole) (a3 : Memref sig .tc .vmem S8x32768 .f32) (h3 : a3.IsWhole)
    (x0 : S8x64.Idx → Elt F .f32) (x1 : S64x32768.Idx → Elt F .f32) (x2 : S32768.Idx → Elt F .f32)
    (x3 : S8x32768.Idx → Elt F .f32) (K : PUnit → sProp 𝕄) :
    iprop((owns (c : Thread nD τ) a0 fullShare x0 ∗ owns (c : Thread nD τ) a1 fullShare x1
            ∗ owns (c : Thread nD τ) a2 fullShare x2 ∗ owns (c : Thread nD τ) a3 fullShare x3)
          ∗ (iprop(owns (c : Thread nD τ) a0 fullShare x0 ∗ owns (c : Thread nD τ) a1 fullShare x1
                  ∗ owns (c : Thread nD τ) a2 fullShare x2 ∗ owns (c : Thread nD τ) a3 fullShare (k0_pay1 x0 x1 x2)) -∗ K ⟨⟩))
      ⊢ wp frame (wpE (defs₀ (F := F)) Variants.none c none) E (cc0__body i a0 h0 a1 h1 a2 h2 a3 h3) K := by
  simp only [cc0__body_eq_skeleton]; unfold cc0__body_skel
  unfold owns
  iintro ⟨⟨⟨%f0, %hf0, H0⟩, ⟨%f1, %hf1, H1⟩, ⟨%f2, %hf2, H2⟩, ⟨%f3, %hf3, H3⟩⟩, Hk⟩
  subst hf0 hf1 hf2 hf3
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr; swap
  · iexact H3
  ipureintro
  rw [View.read_writes_eq_canon _ _ _ (View.cover_of_wholeMem _ (by sl_whole_mem)),
    View.canon_unit_zero zero2]
  exact congr (congr (congrArg k0_pay1 (View.ld_unit_zero (S := S8x64) zero2 _ _))
    (View.ld_unit_zero (S := S64x32768) zero2 _ _)) (View.ld_unit_zero (S := S32768) zero1 _ _)

/-! ## The proof data -/

variable (m : (ℓ : Loc nD τ sig) → Buf (Elt F) ℓ)

/-- The word the descriptions below put past the arrays' ends; nothing reads it. -/
def pad {s : Shape} : s.Idx → Elt F .f32 := fun _ => Scalar.ofBits .f32 0#32

/-- The proof data of the region: the arrays as the region finds them; after the body at point `t` the inputs'
    buffers hold their blocks and the output's holds block `t` of `G`, each filled out past its array's end. -/
def dats (G : Dev nD → S8x1000000.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) pad (iblk m c 1 t)
    | ⟨2, _⟩ => win0_2.fill (grid0.coords t) pad (iblk m c 2 t)
    | ⟨3, _⟩ => win0_3.fill (grid0.coords t) pad ((win0_3.blk t).view.read (Elt F) (G c))
  Φ _ := Pipeline.ΦA spec0 c
  q _ := fullShare
  owed _ := 0

variable (G : Dev nD → S8x1000000.Idx → Elt F .f32)

/-- The proof data's arrays are the region's. -/
theorem dats_A (c : Dev nD) (w : Fin cfg0.W) : (dats m G 0 c).A w = V m c (Pipeline.arrRef spec0 w) := by
  dsimp only [dats]

/-- The constant input is fetched once, and its buffer holds the array's block at every point. -/
theorem before_0 (c : Dev nD) (t : Fin cfg0.N) (d) : (dats m G 0 c).before 0 t d = iblk m c 0 t :=
  before0_0_of m (dats m G 0 c) (dats_A m G c 0) (fun _ => rfl) t d

/-- The weight block is fetched at every point: the columns inside the array, anything past them. -/
theorem before_1 (c : Dev nD) (t : Fin cfg0.N) (d) :
    (dats m G 0 c).before 1 t d = win0_1.fill (grid0.coords t) d (iblk m c 1 t) := by
  unfold Dat.before; rw [if_pos (fetch0_1 t)]; rfl

/-- The bias block likewise. -/
theorem before_2 (c : Dev nD) (t : Fin cfg0.N) (d) :
    (dats m G 0 c).before 2 t d = win0_2.fill (grid0.coords t) d (iblk m c 2 t) := by
  unfold Dat.before; rw [if_pos (fetch0_2 t)]; rfl

/-- `G`'s blocks are what the payload leaves on the columns inside the array, whatever lies past the ends of the
    weight and bias blocks. -/
def Fits (G : Dev nD → S8x1000000.Idx → Elt F .f32) : Prop :=
  ∀ (c : Dev nD) (t : Fin cfg0.N) (d1 : S64x32768.Idx → Elt F .f32) (d2 : S32768.Idx → Elt F .f32),
    win0_3.cut (grid0.coords t) (k0_pay1 (iblk m c 0 t) (win0_1.fill (grid0.coords t) d1 (iblk m c 1 t))
      (win0_2.fill (grid0.coords t) d2 (iblk m c 2 t))) = (win0_3.blk t).view.read (Elt F) (G c)

/-- The body's table entry at point `t` is the body on that point's buffers. -/
theorem row (t : Fin cfg0.N) : defs₀ (F := F) .tc cfg0.body (cfg0.bodyArgs t (cfg0.slots t)) = bodyAt0 t := by
  unfold defs₀; rw [Defs.onTc_tc]

/-- The weight buffer, left as the body found it, is what the proof data ask of it. -/
theorem keep_1 (c : Dev nD) (t : Fin cfg0.N) (d : S64x32768.Idx → Elt F .f32) :
    (owns (c : Thread nD τ) (st0_1 t) fullShare (win0_1.fill (grid0.coords t) d (iblk m c 1 t)) : sProp 𝕄)
      ⊢ iprop(∃ d, owns (c : Thread nD τ) (st0_1 t) fullShare
          (win0_1.fill (grid0.coords t) d (win0_1.cut (grid0.coords t) ((dats m G 0 c).after 1 t)))) := by
  iintro H; iexists d
  change _ ⊢ owns _ _ _ (win0_1.fill _ d (win0_1.cut (grid0.coords t) (win0_1.fill (grid0.coords t) pad (iblk m c 1 t))))
  rw [Window.cut_fill]

/-- The bias buffer, left as the body found it, is what the proof data ask of it. -/
theorem keep_2 (c : Dev nD) (t : Fin cfg0.N) (d : S32768.Idx → Elt F .f32) :
    (owns (c : Thread nD τ) (st0_2 t) fullShare (win0_2.fill (grid0.coords t) d (iblk m c 2 t)) : sProp 𝕄)
      ⊢ iprop(∃ d, owns (c : Thread nD τ) (st0_2 t) fullShare
          (win0_2.fill (grid0.coords t) d (win0_2.cut (grid0.coords t) ((dats m G 0 c).after 2 t)))) := by
  iintro H; iexists d
  change _ ⊢ owns _ _ _ (win0_2.fill _ d (win0_2.cut (grid0.coords t) (win0_2.fill (grid0.coords t) pad (iblk m c 2 t))))
  rw [Window.cut_fill]

/-- The output buffer, at contents whose columns inside the array are `G`'s block, is what the proof data ask of it. -/
theorem keep_3 (c : Dev nD) (t : Fin cfg0.N) (x : S8x32768.Idx → Elt F .f32)
    (hx : win0_3.cut (grid0.coords t) x = (win0_3.blk t).view.read (Elt F) (G c)) :
    (owns (c : Thread nD τ) (st0_3 t) fullShare x : sProp 𝕄)
      ⊢ iprop(∃ d, owns (c : Thread nD τ) (st0_3 t) fullShare
          (win0_3.fill (grid0.coords t) d (win0_3.cut (grid0.coords t) ((dats m G 0 c).after 3 t)))) := by
  iintro H; iexists x
  change _ ⊢ owns _ _ _ (win0_3.fill _ x (win0_3.cut (grid0.coords t) (win0_3.fill (grid0.coords t) pad _)))
  rw [Window.cut_fill, ← hx, Window.fill_cut]

/-- The body at one point, from what the pipeline hands it: it leaves what `Q` asks, where `Q` follows from the
    buffers' contents after it. -/
theorem point (c : Dev nD) (t : Fin cfg0.N) (R Q : sProp 𝕄) (d1 : S64x32768.Idx → Elt F .f32)
    (d2 : S32768.Idx → Elt F .f32) (x3 : S8x32768.Idx → Elt F .f32)
    (hQ : iprop(R ∗ owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare (k0_pay1 (iblk m c 0 t)
            (win0_1.fill (grid0.coords t) d1 (iblk m c 1 t)) (win0_2.fill (grid0.coords t) d2 (iblk m c 2 t)))) ⊢ Q) :
    iprop(R ∗ owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (win0_2.fill (grid0.coords t) d2 (iblk m c 2 t))
        ∗ owns (c : Thread nD τ) (st0_3 t) fullShare x3)
      ⊢ wp frame (wpE (defs₀ (F := F)) Variants.none c none) Set.univ (bodyAt0 t) fun _ => Q := by
  iintro ⟨HR, H⟩
  iapply body_triple c Set.univ (grid0.coords t) (st0_0 t) _ (st0_1 t) _ (st0_2 t) _ (st0_3 t) _
  isplitl [H]; · iexact H
  iintro H
  iapply hQ
  isplitl [HR]; · iexact HR
  iexact H

/-- The exact obligation, where `G` fits. -/
theorem obligation (hG : Fits m G) (c : Dev nD) :
    BodyObligationLoose (dats m G 0 c) (defs₀ (F := F)) Variants.none () Set.univ := fun t => by
  rw [bigSep_W0, bigSep_W0, row, show (dats m G 0 c).Φ t.succ = (dats m G 0 c).Φ t.castSucc from rfl,
    show (dats m G 0 c).owesAt () t.succ = (dats m G 0 c).owesAt () t.castSucc from rfl]
  iintro ⟨HΦ, Ho, ⟨%d0, H0⟩, ⟨%d1, H1⟩, ⟨%d2, H2⟩, ⟨%d3, H3⟩⟩
  rw [before_0, before_1, before_2]
  iapply point m c t iprop((dats m G 0 c).Φ t.castSucc ∗ (dats m G 0 c).owesAt () t.castSucc) _ d1 d2 _ ?_
  · iintro ⟨⟨HΦ, Ho⟩, H0, H1, H2, H3⟩
    isplitl [HΦ]; · iexact HΦ
    isplitl [Ho]; · iexact Ho
    isplitl [H0]; · iexact H0
    isplitl [H1]; · iapply keep_1 m G c t d1; iexact H1
    isplitl [H2]; · iapply keep_2 m G c t d2; iexact H2
    iapply keep_3 m G c t _ (hG c t d1 d2); iexact H3
  · isplitl [HΦ Ho]
    · isplitl [HΦ]; · iexact HΦ
      iexact Ho
    isplitl [H0]; · iexact H0
    isplitl [H1]; · iexact H1
    isplitl [H2]; · iexact H2
    iexact H3

/-- The output window, and only it, is forgotten. -/
def forgotten : Fin 4 → Bool
  | 0 => false
  | 1 => false
  | 2 => false
  | 3 => true

/-- The obligation with the output window forgotten, for any `G`. -/
theorem obligation_forget (c : Dev nD) :
    BodyObligationLoose (dats m G 0 c) (defs₀ (F := F)) Variants.none () Set.univ forgotten := fun t => by
  rw [bigSep_W0, bigSep_W0, row, show (dats m G 0 c).Φ t.succ = (dats m G 0 c).Φ t.castSucc from rfl,
    show (dats m G 0 c).owesAt () t.succ = (dats m G 0 c).owesAt () t.castSucc from rfl]
  simp only [forgotten]
  iintro ⟨HΦ, Ho, ⟨%d0, H0⟩, ⟨%d1, H1⟩, ⟨%d2, H2⟩, ⟨%d3, H3⟩⟩
  rw [before_0, before_1, before_2]
  iapply point m c t iprop((dats m G 0 c).Φ t.castSucc ∗ (dats m G 0 c).owesAt () t.castSucc) _ d1 d2 _ ?_
  · iintro ⟨⟨HΦ, Ho⟩, H0, H1, H2, H3⟩
    isplitl [HΦ]; · iexact HΦ
    isplitl [Ho]; · iexact Ho
    isplitl [H0]; · iexact H0
    isplitl [H1]; · iapply keep_1 m G c t d1; iexact H1
    isplitl [H2]; · iapply keep_2 m G c t d2; iexact H2
    iexists _; iexact H3
  · isplitl [HΦ Ho]
    · isplitl [HΦ]; · iexact HΦ
      iexact Ho
    isplitl [H0]; · iexact H0
    isplitl [H1]; · iexact H1
    isplitl [H2]; · iexact H2
    iexact H3

/-! ## The runs -/

variable (ρ : Dev nD → PrngReg)

/-- What every run leaves of the arguments: all three, on every core, as launched, and no semaphore counter set. -/
def ArgsKept (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

set_option backward.isDefEq.respectTransparency.types false in
set_option maxHeartbeats 800000 in
/-- Where `G` fits, the run ends with `G`'s blocks written back into the result array, the arguments kept. -/
theorem run_exact (hG : Fits m G) :
    θ_run (defs (F := F)) (onTc main) ⟨m, fun _ => 0, ρ⟩ fun r =>
      (∀ c : Dev nD, r.2.mem ((c : Thread nD τ).loc main_v1) = (dats m G 0 c).arrAt 3 (cfgs 0).N) ∧ ArgsKept m r :=
  Pipeline.θ_run_frame cfgs (dats m G) (0 : Fin 1) launch0 defs₀ Variants.none m ρ main
    (hbody := obligation m G hG) (hshare := fun c => (dats m G 0 c).share_full fun _ => rfl)
    (howed := fun _ _ => rfl) (V := V m) (hmain := hmain m Variants.none) (hA := dats_A m G) (hΦ := fun _ _ => rfl)
    (Q' := _)
    (hQ' := fun r h => ⟨fun c => (h.1 c).1 3, fun c => ⟨((h.1 c).1 0).trans ((dats m G 0 c).arrAt_in 0 rfl _),
      ((h.1 c).2 main_arg1 (Pipeline.mem_restRefs_of main_arg1 (by decide) (by decide))).trans (V_main_arg1 m c),
      ((h.1 c).1 2).trans ((dats m G 0 c).arrAt_in 2 rfl _)⟩, h.2⟩)

set_option backward.isDefEq.respectTransparency.types false in
set_option maxHeartbeats 800000 in
/-- Whatever the float values are, the run keeps the arguments. -/
theorem run_forget : θ_run (defs (F := F)) (onTc main) ⟨m, fun _ => 0, ρ⟩ (ArgsKept m) :=
  Pipeline.θ_run_frame_forget cfgs (dats m fun _ => pad) (0 : Fin 1) launch0 defs₀ Variants.none forgotten m ρ main
    (hbody := obligation_forget m _) (hshare := fun c => (dats m _ 0 c).share_full fun _ => rfl)
    (howed := fun _ _ => rfl) (V := V m) (hmain := hmain m Variants.none) (hA := dats_A m _) (hΦ := fun _ _ => rfl)
    (Q' := _)
    (hQ' := fun r h => ⟨fun c => ⟨h.1.arr_in c 0 rfl,
      ((h.1 c).2 main_arg1 (Pipeline.mem_restRefs_of main_arg1 (by decide) (by decide))).trans (V_main_arg1 m c),
      h.1.arr_in c 2 rfl⟩, h.2⟩)

end Cert.Logits
-- ==== Proof.Original.lean ====
/-
  The kernel as written and the kernel as printed for idealization are one program: no operation was
  rewritten between them. So what is proved of the second at any float values holds of the first at bit patterns.
-/
module

public import proofs.«01_k».proof.Proof.Body
public import proofs.«01_k».proof.Proof.Gen.Kernel

@[expose] public section

set_option maxRecDepth 16384

noncomputable section

namespace Cert.Logits

open Idealize.ShloMosaic Idealize.ShloMosaic.TcCoe Idealize.SL.Sem

variable {F : FTy → Type} [FloatOps F]

/-- The two programs' body tables are equal, entry by entry. -/
theorem bodies_eq : Cert.Kernel.defs₀ (F := F) = Cert.KernelIdeal.defs₀ (F := F) :=
  congrArg Defs.onTc (funext fun l => funext fun a => match l, a with
    | 0, (_, _) => rfl)

/-- So are their whole tables, with the region's and the pipeline's entries. -/
theorem defs_eq : Cert.Kernel.defs (F := F) = Cert.KernelIdeal.defs (F := F) :=
  congrArg (Pipeline.defs Cert.Kernel.pcfgs) bodies_eq

/-- The kernel as written keeps its arguments and leaves no semaphore counter set. -/
theorem run_original (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) Cert.Kernel.main) ⟨m, fun _ => 0, ρ⟩ (ArgsKept m) := by
  rw [defs_eq]; exact run_forget m ρ

end Cert.Logits
-- ==== Proof.Value.lean ====
/-
  The values of the idealized kernel: its result array is the reference's `inp · Wᵀ + b`.

  A result at row `r` and column `n` reads row `r` of the input, row `n` of the weights and entry `n` of the bias, and
  no other column: so what the last block's tail holds past the arrays' ends does not reach the columns that are
  written back. The proof reads both sides at one block index (`fits`), and joins the blocks, which cover the result
  array (`result`).
-/
module

public import proofs.«01_k».proof.Proof.Body
public import proofs.«01_k».proof.Proof.Gen.ReferenceIdeal.Run
public import Idealize.ShloMosaic.Lib.Pipeline.ValueKit

@[expose] public section

set_option maxRecDepth 16384

noncomputable section

namespace Cert.Logits

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The geometry of the blocks -/

/-- The block index of each window at point `t`: the input's is constant, the others move along the columns. -/
theorem index_at : ∀ t : Fin cfg0.N, win0_0.index t = ![0, 0] ∧ win0_1.index t = ![0, t.val] ∧ win0_2.index t = ![t.val]
    ∧ win0_3.index t = ![0, t.val] :=
  (by decide +kernel : ∀ t : Fin grid0.N, _)

/-- The extents of the weight and bias blocks inside their arrays: 32768 columns, or what is left of the 1000000. -/
theorem extent_at : ∀ t : Fin cfg0.N,
    win0_1.xsize (grid0.coords t) = ![64, min 32768 (1000000 - 32768 * t.val)]
      ∧ win0_2.xsize (grid0.coords t) = ![min 32768 (1000000 - 32768 * t.val)] :=
  (by decide +kernel : ∀ t : Fin grid0.N, _)

/-- The result's blocks cover its array. -/
theorem covers : (cfg0.win 3).Covers := by decide +kernel

/-! ## The input blocks at an index -/

/-- The weights as the region finds them: transposed. -/
theorem weights_transposed (c : Dev nD) (i : S64x1000000.Idx) :
    V m c main_v0 i = m ((c : Thread nD τ).loc main_arg1) (ix2 (i 1) (i 0)) := by
  entry_read; pointwise

/-- The input's block is the input. -/
theorem inp_at (c : Dev nD) (t : Fin cfg0.N) (r : Fin 8) (k : Fin 64) :
    iblk m c 0 t (ix2 r k) = m ((c : Thread nD τ).loc main_arg0) (ix2 r k) := by
  blk_ext [iblk, V, index_at t]

/-- Column `j` of the weight buffer at point `t`, where it is column `n` of the array, is row `n` of the weights —
    whatever `d` the buffer holds past the array's end. -/
theorem weight_at (c : Dev nD) (t : Fin cfg0.N) (d : S64x32768.Idx → Elt Ideal .f32) (k : Fin 64) (j : Fin 32768)
    (n : Fin 1000000) (hn : n.val = t.val * 32768 + j.val) :
    win0_1.fill (grid0.coords t) d (iblk m c 1 t) (ix2 k j) = m ((c : Thread nD τ).loc main_arg1) (ix2 n k) := by
  have hx : ∀ a, (ix2 k j a).val < win0_1.xsize (grid0.coords t) a := by
    rw [(extent_at t).1]
    exact fun | 0 => k.isLt | 1 => by show j.val < min 32768 (1000000 - 32768 * t.val); omega
  refine (win0_1.fill_xinj (grid0.coords t) d (iblk m c 1 t) fun a => ⟨(ix2 k j a).val, hx a⟩).trans ?_
  blk_simp [iblk]
  refine (weights_transposed m c _).trans ?_
  blk_ext [index_at t]

/-- Entry `j` of the bias buffer at point `t`, where it is entry `n` of the array, is entry `n` of the bias. -/
theorem bias_at (c : Dev nD) (t : Fin cfg0.N) (d : S32768.Idx → Elt Ideal .f32) (j : Fin 32768)
    (n : Fin 1000000) (hn : n.val = t.val * 32768 + j.val) :
    win0_2.fill (grid0.coords t) d (iblk m c 2 t) (ix1 j) = m ((c : Thread nD τ).loc main_arg2) (ix1 n) := by
  have hx : ∀ a, (ix1 j a).val < win0_2.xsize (grid0.coords t) a := by
    rw [(extent_at t).2]
    exact fun | 0 => by show j.val < min 32768 (1000000 - 32768 * t.val); omega
  refine (win0_2.fill_xinj (grid0.coords t) d (iblk m c 2 t) fun a => ⟨(ix1 j a).val, hx a⟩).trans ?_
  blk_ext [iblk, V, index_at t]

/-! ## The result -/

/-- The reference's result as a function of the three arguments: `inp · Wᵀ + b`. -/
abbrev logits (x : FVec Ideal S8x64 .f32) (w : FVec Ideal S1000000x64 .f32) (b : FVec Ideal S1000000 .f32) :
    FVec Ideal S8x1000000 .f32 :=
  addf (Host.dotGeneral Cert.ReferenceIdeal.dot_S8x64_S64x1000000_S8x1000000_1_0_0_1_n_n none x
      (transpose S64x1000000 [1, 0] w Cert.ReferenceIdeal.Gen.transposes_S1000000x64_S64x1000000_1_0))
    (broadcastInDim S8x1000000 ![0, 1] Cert.ReferenceIdeal.Gen.bcast_S1x1000000_S8x1000000_0_1
      (broadcastInDim Cert.ReferenceIdeal.S1x1000000 ![1] Cert.ReferenceIdeal.Gen.bcast_S1000000_S1x1000000_1 b))

/-- That function of the arguments as launched on core `c`. -/
abbrev logitsOf (c : Dev nD) : S8x1000000.Idx → Elt Ideal .f32 :=
  logits (m ((c : Thread nD τ).loc main_arg0)) (m ((c : Thread nD τ).loc main_arg1)) (m ((c : Thread nD τ).loc main_arg2))

/-- On the columns inside the array the body leaves the reference's block: the same sum of 64 products and the same
    bias entry at every index. -/
theorem fits : Fits m (logitsOf m) := fun c t d1 d2 => by
  funext y
  have hr : ((win0_3.blk t).view.emb y 0).val = (y 0).val := by blk_simp [index_at t]
  have hn : ((win0_3.blk t).view.emb y 1).val = t.val * 32768 + (y 1).val := by blk_simp [index_at t]
  show k0_pay1 (F := Ideal) _ _ _ (win0_3.xinj (grid0.coords t) y) = logitsOf m c ((win0_3.blk t).view.emb y)
  pointwise [k0_pay1, logits]
  refine congr (congrArg HAdd.hAdd (Finset.sum_congr rfl fun k _ => congr (congrArg HMul.hMul ?_)
    (weight_at m c t d1 k _ _ hn))) (bias_at m c t d2 _ _ hn)
  exact (inp_at m c t _ k).trans (congrArg (fun r => m ((c : Thread nD τ).loc main_arg0) (ix2 r k)) (Fin.ext hr.symm))

/-- After the last point the result array is the reference's, all 1000000 columns of it. -/
theorem result (c : Dev nD) : (dats m (logitsOf m) 0 c).arrAt 3 (cfgs 0).N = logitsOf m c := by
  refine (dats m (logitsOf m) 0 c).arrAt_eq_of_covers 3 _ covers fun t _ y => ?_
  show win0_3.fill (grid0.coords t) pad ((win0_3.blk t).view.read (Elt Ideal) (logitsOf m c)) (win0_3.xinj (grid0.coords t) y)
    = logitsOf m c ((win0_3.blk t).view.emb y)
  rw [Pipeline.Window.fill_xinj]; rfl

/-- The run of the idealized kernel: the result array ends at the reference's function of the arguments, which are
    kept. -/
theorem run_value (ρ : Dev nD → PrngReg) :
    θ_run (defs (F := Ideal)) (onTc main) ⟨m, fun _ => 0, ρ⟩ fun r =>
      (∀ c : Dev nD, r.2.mem ((c : Thread nD τ).loc main_v1) = logitsOf m c) ∧ ArgsKept m r :=
  (θ_run _ _ _).mono (fun _ h => ⟨fun c => (h.1 c).trans (result m c), h.2⟩) (run_exact m _ ρ (fits m))

end Cert.Logits
-- ==== Proof.lean ====
module

public import proofs.«01_k».proof.Defs
public import proofs.«01_k».proof.Proof.Original
public import proofs.«01_k».proof.Proof.Value
public import Idealize.ShloMosaic.Lib.Quiescent

@[expose] public section

noncomputable section

namespace Cert.Proof

open Idealize.ShloMosaic Idealize.SL.Sem

/-- The reference keeps its arguments; it has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run m g)

/-- The idealized kernel and the reference, from the same arguments, end with the same result. -/
theorem values_agree : Cert.algebraic_KernelIdeal_ReferenceIdeal (hKernelIdeal := Cert.KernelIdeal.Gen.facts)
    (hReferenceIdeal := Cert.ReferenceIdeal.Gen.facts) := fun m g m' g' _ hargs =>
  ⟨Cert.Logits.logitsOf m,
    (θ_run _ _ _).mono (fun _ h c => ⟨h.1 c, h.2.1 c⟩) (Cert.Logits.run_value m g),
    (θ_run _ _ _).mono (fun _ h c => ⟨by
      obtain ⟨h0, h1, h2⟩ := hargs c
      refine (h c).1.trans ?_
      rw [h0, h1, h2], (h c).2⟩) (Cert.ReferenceIdeal.Value.run m' g')⟩

/-- The five claims. -/
theorem claim : Cert.Claim := ⟨Cert.Kernel.Gen.facts, Cert.KernelIdeal.Gen.facts, Cert.ReferenceIdeal.Gen.facts,
  fun m g _ => Cert.Logits.run_original m g, fun m g _ => Cert.Logits.run_forget m g, reference_frame, trivial, values_agree⟩

end Cert.Proof

end
